-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x18432 : Shape := ⟨3, ![24, 1, 18432]⟩
abbrev S3584x18432 : Shape := ⟨2, ![3584, 18432]⟩
abbrev S448x18432 : Shape := ⟨2, ![448, 18432]⟩
abbrev S_ : Shape := ⟨0, ![]⟩
abbrev S24x18432 : Shape := ⟨2, ![24, 18432]⟩
abbrev S24x7168 : Shape := ⟨2, ![24, 7168]⟩
abbrev S24x2048 : Shape := ⟨2, ![24, 2048]⟩
abbrev S256x2048 : Shape := ⟨2, ![256, 2048]⟩
abbrev S32x2048 : Shape := ⟨2, ![32, 2048]⟩
abbrev S24x512 : Shape := ⟨2, ![24, 512]⟩
abbrev S256x1x2048 : Shape := ⟨3, ![256, 1, 2048]⟩
abbrev S256x2x2048 : Shape := ⟨3, ![256, 2, 2048]⟩
abbrev S512x2048 : Shape := ⟨2, ![512, 2048]⟩
abbrev S32x16x2048 : Shape := ⟨3, ![32, 16, 2048]⟩
abbrev S32x1x2048 : Shape := ⟨3, ![32, 1, 2048]⟩
abbrev S24x1x7168 : Shape := ⟨3, ![24, 1, 7168]⟩

abbrev nBuf : Space → Nat
  | .hbm => 10
  | .vmem => 9
  | .smem => 0
  | _ => 0

abbrev bufTy : (tb : Table) → Fin (tcTables nBuf tb) → BufTy
  | .hbm, ⟨0, _⟩ => ⟨S24x1x18432, .bf16⟩
  | .hbm, ⟨1, _⟩ => ⟨S3584x18432, .i8⟩
  | .hbm, ⟨2, _⟩ => ⟨S448x18432, .fp8e4m3⟩
  | .hbm, ⟨3, _⟩ => ⟨S_, .f32⟩
  | .hbm, ⟨4, _⟩ => ⟨S24x18432, .bf16⟩
  | .hbm, ⟨5, _⟩ => ⟨S24x7168, .f32⟩
  | .hbm, ⟨6, _⟩ => ⟨S24x7168, .f32⟩
  | .hbm, ⟨7, _⟩ => ⟨S24x7168, .f32⟩
  | .hbm, ⟨8, _⟩ => ⟨S24x7168, .bf16⟩
  | .hbm, ⟨9, _⟩ => ⟨S24x1x7168, .bf16⟩
  | .local _ .vmem, ⟨0, _⟩ => ⟨S24x2048, .bf16⟩
  | .local _ .vmem, ⟨1, _⟩ => ⟨S24x2048, .bf16⟩
  | .local _ .vmem, ⟨2, _⟩ => ⟨S256x2048, .i8⟩
  | .local _ .vmem, ⟨3, _⟩ => ⟨S256x2048, .i8⟩
  | .local _ .vmem, ⟨4, _⟩ => ⟨S32x2048, .fp8e4m3⟩
  | .local _ .vmem, ⟨5, _⟩ => ⟨S32x2048, .fp8e4m3⟩
  | .local _ .vmem, ⟨6, _⟩ => ⟨S24x512, .f32⟩
  | .local _ .vmem, ⟨7, _⟩ => ⟨S24x512, .f32⟩
  | .local _ .vmem, ⟨8, _⟩ => ⟨S24x512, .f32⟩
  | _, _ => ⟨S24x1x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 9], ![false, false]⟩

def k0_cond2 (i : grid0.Coords) : BitVec 1 :=
  let arg1 : BitVec 32 := BitVec.ofNat 32 (i 1).val
  let c8_i32_16 : BitVec 32 := 8#32
  let v52 : BitVec 1 := Scalar.cmpi .eq arg1 c8_i32_16
  let v53 : BitVec 32 := Scalar.extui v52
  let c0_i32_17 : BitVec 32 := 0#32
  let v54 : BitVec 1 := Scalar.cmpi .ne v53 c0_i32_17
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S24x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S24x1x18432 : Shape := ⟨3, ![24, 1, 18432]⟩
abbrev S3584x18432 : Shape := ⟨2, ![3584, 18432]⟩
abbrev S448x18432 : Shape := ⟨2, ![448, 18432]⟩
abbrev S_ : Shape := ⟨0, ![]⟩
abbrev S448x8x18432 : Shape := ⟨3, ![448, 8, 18432]⟩
abbrev S448x1x18432 : Shape := ⟨3, ![448, 1, 18432]⟩
abbrev S24x1x3584 : Shape := ⟨3, ![24, 1, 3584]⟩
abbrev S24x1x3584x1 : Shape := ⟨4, ![24, 1, 3584, 1]⟩
abbrev S24x1x3584x2 : Shape := ⟨4, ![24, 1, 3584, 2]⟩
abbrev S24x1x7168 : Shape := ⟨3, ![24, 1, 7168]⟩

abbrev nBuf : Space → Nat
  | .hbm => 129
  | .vmem => 2
  | .smem => 0
  | _ => 0

abbrev hbmTy0_0 (i : Nat) : BufTy := match i % 128 with
  | 0 => ⟨S24x1x18432, .bf16⟩
  | 1 => ⟨S3584x18432, .i8⟩
  | 2 => ⟨S448x18432, .fp8e4m3⟩
  | 3 => ⟨S_, .f32⟩
  | 4 => ⟨S3584x18432, .i32⟩
  | 5 => ⟨S_, .i32⟩
  | 6 => ⟨S3584x18432, .i32⟩
  | 7 => ⟨S3584x18432, .i32⟩
  | 8 => ⟨S_, .i32⟩
  | 9 => ⟨S3584x18432, .i32⟩
  | 10 => ⟨S3584x18432, .i32⟩
  | 11 => ⟨S448x18432, .bf16⟩
  | 12 => ⟨S_, .i32⟩
  | 13 => ⟨S3584x18432, .i32⟩
  | 14 => ⟨S3584x18432, .i32⟩
  | 15 => ⟨S_, .i32⟩
  | 16 => ⟨S3584x18432, .i32⟩
  | 17 => ⟨S3584x18432, .i1⟩
  | 18 => ⟨S_, .i32⟩
  | 19 => ⟨S3584x18432, .i32⟩
  | 20 => ⟨S3584x18432, .i32⟩
  | 21 => ⟨S_, .i32⟩
  | 22 => ⟨S3584x18432, .i32⟩
  | 23 => ⟨S3584x18432, .i1⟩
  | 24 => ⟨S_, .i32⟩
  | 25 => ⟨S3584x18432, .i32⟩
  | 26 => ⟨S3584x18432, .i32⟩
  | 27 => ⟨S_, .i32⟩
  | 28 => ⟨S3584x18432, .i32⟩
  | 29 => ⟨S3584x18432, .i1⟩
  | 30 => ⟨S_, .i32⟩
  | 31 => ⟨S3584x18432, .i32⟩
  | 32 => ⟨S3584x18432, .i32⟩
  | 33 => ⟨S_, .i32⟩
  | 34 => ⟨S3584x18432, .i32⟩
  | 35 => ⟨S3584x18432, .i1⟩
  | 36 => ⟨S_, .bf16⟩
  | 37 => ⟨S_, .bf16⟩
  | 38 => ⟨S3584x18432, .bf16⟩
  | 39 => ⟨S3584x18432, .bf16⟩
  | 40 => ⟨S3584x18432, .bf16⟩
  | 41 => ⟨S_, .bf16⟩
  | 42 => ⟨S_, .bf16⟩
  | 43 => ⟨S3584x18432, .bf16⟩
  | 44 => ⟨S3584x18432, .bf16⟩
  | 45 => ⟨S3584x18432, .bf16⟩
  | 46 => ⟨S3584x18432, .bf16⟩
  | 47 => ⟨S_, .bf16⟩
  | 48 => ⟨S_, .bf16⟩
  | 49 => ⟨S3584x18432, .bf16⟩
  | 50 => ⟨S3584x18432, .bf16⟩
  | 51 => ⟨S3584x18432, .bf16⟩
  | 52 => ⟨S_, .bf16⟩
  | 53 => ⟨S_, .bf16⟩
  | 54 => ⟨S3584x18432, .bf16⟩
  | 55 => ⟨S3584x18432, .bf16⟩
  | 56 => ⟨S3584x18432, .bf16⟩
  | 57 => ⟨S3584x18432, .bf16⟩
  | 58 => ⟨S3584x18432, .bf16⟩
  | 59 => ⟨S3584x18432, .bf16⟩
  | 60 => ⟨S3584x18432, .bf16⟩
  | 61 => ⟨S448x8x18432, .bf16⟩
  | 62 => ⟨S448x1x18432, .bf16⟩
  | 63 => ⟨S448x8x18432, .bf16⟩
  | 64 => ⟨S448x8x18432, .bf16⟩
  | 65 => ⟨S3584x18432, .bf16⟩
  | 66 => ⟨S_, .i32⟩
  | 67 => ⟨S3584x18432, .i32⟩
  | 68 => ⟨S3584x18432, .i32⟩
  | 69 => ⟨S_, .i32⟩
  | 70 => ⟨S3584x18432, .i32⟩
  | 71 => ⟨S3584x18432, .i1⟩
  | 72 => ⟨S_, .i32⟩
  | 73 => ⟨S3584x18432, .i32⟩
  | 74 => ⟨S3584x18432, .i32⟩
  | 75 => ⟨S_, .i32⟩
  | 76 => ⟨S3584x18432, .i32⟩
  | 77 => ⟨S3584x18432, .i1⟩
  | 78 => ⟨S_, .i32⟩
  | 79 => ⟨S3584x18432, .i32⟩
  | 80 => ⟨S3584x18432, .i32⟩
  | 81 => ⟨S_, .i32⟩
  | 82 => ⟨S3584x18432, .i32⟩
  | 83 => ⟨S3584x18432, .i1⟩
  | 84 => ⟨S_, .i32⟩
  | 85 => ⟨S3584x18432, .i32⟩
  | 86 => ⟨S3584x18432, .i32⟩
  | 87 => ⟨S_, .i32⟩
  | 88 => ⟨S3584x18432, .i32⟩
  | 89 => ⟨S3584x18432, .i1⟩
  | 90 => ⟨S_, .bf16⟩
  | 91 => ⟨S_, .bf16⟩
  | 92 => ⟨S3584x18432, .bf16⟩
  | 93 => ⟨S3584x18432, .bf16⟩
  | 94 => ⟨S3584x18432, .bf16⟩
  | 95 => ⟨S_, .bf16⟩
  | 96 => ⟨S_, .bf16⟩
  | 97 => ⟨S3584x18432, .bf16⟩
  | 98 => ⟨S3584x18432, .bf16⟩
  | 99 => ⟨S3584x18432, .bf16⟩
  | 100 => ⟨S3584x18432, .bf16⟩
  | 101 => ⟨S_, .bf16⟩
  | 102 => ⟨S_, .bf16⟩
  | 103 => ⟨S3584x18432, .bf16⟩
  | 104 => ⟨S3584x18432, .bf16⟩
  | 105 => ⟨S3584x18432, .bf16⟩
  | 106 => ⟨S_, .bf16⟩
  | 107 => ⟨S_, .bf16⟩
  | 108 => ⟨S3584x18432, .bf16⟩
  | 109 => ⟨S3584x18432, .bf16⟩
  | 110 => ⟨S3584x18432, .bf16⟩
  | 111 => ⟨S3584x18432, .bf16⟩
  | 112 => ⟨S3584x18432, .bf16⟩
  | 113 => ⟨S3584x18432, .bf16⟩
  | 114 => ⟨S3584x18432, .bf16⟩
  | 115 => ⟨S448x8x18432, .bf16⟩
  | 116 => ⟨S448x1x18432, .bf16⟩
  | 117 => ⟨S448x8x18432, .bf16⟩
  | 118 => ⟨S448x8x18432, .bf16⟩
  | 119 => ⟨S3584x18432, .bf16⟩
  | 120 => ⟨S24x1x3584, .f32⟩
  | 121 => ⟨S24x1x3584, .f32⟩
  | 122 => ⟨S24x1x3584x1, .f32⟩
  | 123 => ⟨S24x1x3584x1, .f32⟩
  | 124 => ⟨S24x1x3584x2, .f32⟩
  | 125 => ⟨S24x1x7168, .f32⟩
  | 126 => ⟨S24x1x7168, .f32⟩
  | 127 => ⟨S24x1x7168, .f32⟩
  | _ => ⟨S24x1x18432, .bf16⟩

abbrev hbmTy0_1 (i : Nat) : BufTy := match i % 128 with
  | 0 => ⟨S24x1x7168, .bf16⟩
  | _ => ⟨S24x1x18432, .bf16⟩

abbrev hbmTy (i : Nat) : BufTy := match i / 128 with
  | 0 => hbmTy0_0 i
  | 1 => hbmTy0_1 i
  | _ => ⟨S24x1x18432, .bf16⟩

abbrev bufTy : (tb : Table) → Fin (tcTables nBuf tb) → BufTy
  | .hbm, ⟨i, _⟩ => hbmTy i
  | .local _ .vmem, ⟨0, _⟩ => ⟨S448x18432, .fp8e4m3⟩
  | .local _ .vmem, ⟨1, _⟩ => ⟨S448x18432, .bf16⟩
  | _, _ => ⟨S24x1x18432, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_c_8 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_cst_9 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_cst_10 : Ref sig .tc := ⟨.hbm, 41, rfl⟩
abbrev main_cst_11 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_v24 : Ref sig .tc := ⟨.hbm, 46, rfl⟩
abbrev main_cst_12 : Ref sig .tc := ⟨.hbm, 47, rfl⟩
abbrev main_cst_13 : Ref sig .tc := ⟨.hbm, 48, rfl⟩
abbrev main_call3_v0 : Ref sig .tc := ⟨.hbm, 49, rfl⟩
abbrev main_call3_v1 : Ref sig .tc := ⟨.hbm, 50, rfl⟩
abbrev main_v25 : Ref sig .tc := ⟨.hbm, 51, rfl⟩
abbrev main_cst_14 : Ref sig .tc := ⟨.hbm, 52, rfl⟩
abbrev main_cst_15 : Ref sig .tc := ⟨.hbm, 53, rfl⟩
abbrev main_call4_v0 : Ref sig .tc := ⟨.hbm, 54, rfl⟩
abbrev main_call4_v1 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_16 : Ref sig .tc := ⟨.hbm, 66, rfl⟩
abbrev main_v36 : Ref sig .tc := ⟨.hbm, 67, rfl⟩
abbrev main_v37 : Ref sig .tc := ⟨.hbm, 68, rfl⟩
abbrev main_c_17 : Ref sig .tc := ⟨.hbm, 69, rfl⟩
abbrev main_v38 : Ref sig .tc := ⟨.hbm, 70, rfl⟩
abbrev main_v39 : Ref sig .tc := ⟨.hbm, 71, rfl⟩
abbrev main_c_18 : Ref sig .tc := ⟨.hbm, 72, rfl⟩
abbrev main_v40 : Ref sig .tc := ⟨.hbm, 73, rfl⟩
abbrev main_v41 : Ref sig .tc := ⟨.hbm, 74, rfl⟩
abbrev main_c_19 : Ref sig .tc := ⟨.hbm, 75, rfl⟩
abbrev main_v42 : Ref sig .tc := ⟨.hbm, 76, rfl⟩
abbrev main_v43 : Ref sig .tc := ⟨.hbm, 77, rfl⟩
abbrev main_c_20 : Ref sig .tc := ⟨.hbm, 78, rfl⟩
abbrev main_v44 : Ref sig .tc := ⟨.hbm, 79, rfl⟩
abbrev main_v45 : Ref sig .tc := ⟨.hbm, 80, rfl⟩
abbrev main_c_21 : Ref sig .tc := ⟨.hbm, 81, rfl⟩
abbrev main_v46 : Ref sig .tc := ⟨.hbm, 82, rfl⟩
abbrev main_v47 : Ref sig .tc := ⟨.hbm, 83, rfl⟩
abbrev main_c_22 : Ref sig .tc := ⟨.hbm, 84, rfl⟩
abbrev main_v48 : Ref sig .tc := ⟨.hbm, 85, rfl⟩
abbrev main_v49 : Ref sig .tc := ⟨.hbm, 86, rfl⟩
abbrev main_c_23 : Ref sig .tc := ⟨.hbm, 87, rfl⟩
abbrev main_v50 : Ref sig .tc := ⟨.hbm, 88, rfl⟩
abbrev main_v51 : Ref sig .tc := ⟨.hbm, 89, rfl⟩
abbrev main_cst_24 : Ref sig .tc := ⟨.hbm, 90, rfl⟩
abbrev main_cst_25 : Ref sig .tc := ⟨.hbm, 91, rfl⟩
abbrev main_call8_v0 : Ref sig .tc := ⟨.hbm, 92, rfl⟩
abbrev main_call8_v1 : Ref sig .tc := ⟨.hbm, 93, rfl⟩
abbrev main_v52 : Ref sig .tc := ⟨.hbm, 94, rfl⟩
abbrev main_cst_26 : Ref sig .tc := ⟨.hbm, 95, rfl⟩
abbrev main_cst_27 : Ref sig .tc := ⟨.hbm, 96, rfl⟩
abbrev main_call9_v0 : Ref sig .tc := ⟨.hbm, 97, rfl⟩
abbrev main_call9_v1 : Ref sig .tc := ⟨.hbm, 98, rfl⟩
abbrev main_v53 : Ref sig .tc := ⟨.hbm, 99, rfl⟩
abbrev main_v54 : Ref sig .tc := ⟨.hbm, 100, rfl⟩
abbrev main_cst_28 : Ref sig .tc := ⟨.hbm, 101, rfl⟩
abbrev main_cst_29 : Ref sig .tc := ⟨.hbm, 102, rfl⟩
abbrev main_call11_v0 : Ref sig .tc := ⟨.hbm, 103, rfl⟩
abbrev main_call11_v1 : Ref sig .tc := ⟨.hbm, 104, rfl⟩
abbrev main_v55 : Ref sig .tc := ⟨.hbm, 105, rfl⟩
abbrev main_cst_30 : Ref sig .tc := ⟨.hbm, 106, rfl⟩
abbrev main_cst_31 : Ref sig .tc := ⟨.hbm, 107, rfl⟩
abbrev main_call12_v0 : Ref sig .tc := ⟨.hbm, 108, rfl⟩
abbrev main_call12_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S448x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S448x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Decode.lean ====
/-
  The four-bit code of the weight (e2m1: one sign bit, two exponent bits, one mantissa bit) and the two ways of decoding
  it that the programs print, at the ideal instance: the kernel's by integer arithmetic on the code's bits, the
  reference's by nested selects over the eight magnitudes. Both are the table of sixteen values `e2m1`.
-/
module

public import Idealize.ShloMosaic.Lib.Pointwise
public import Idealize.ShloMosaic.Lib.IdealHost

@[expose] public section

noncomputable section

open Idealize.ShloMosaic

namespace Cert.Nvfp4

/-! ## The codes -/

/-- Code number `n` of a packed byte, as a 32-bit word: the low four bits for `n = 0`, the high four for `n = 1`. -/
def code (b : BitVec 8) (n : ℕ) : BitVec 32 :=
  if n < 1 then IntOp.andi (BitVec.setWidth 32 b) 15#32
  else IntOp.shrsi ArithUnit.vector (BitVec.setWidth 32 b) 4#32

/-- A code is one of sixteen. -/
theorem code_lt (b : BitVec 8) (n : ℕ) : ∃ q : Fin 16, code b n = BitVec.ofNat 32 q := by
  have lo : ∀ b : BitVec 8, ∃ q : Fin 16, IntOp.andi (BitVec.setWidth 32 b) 15#32 = BitVec.ofNat 32 q := by decide +kernel
  have hi : ∀ b : BitVec 8, ∃ q : Fin 16,
      IntOp.shrsi ArithUnit.vector (BitVec.setWidth 32 b) 4#32 = BitVec.ofNat 32 q := by decide +kernel
  unfold code
  split
  · exact lo b
  · exact hi b

/-- The high code, shifted out on the host. -/
theorem code_one_host (b : BitVec 8) : IntOp.shrsi ArithUnit.host (BitVec.setWidth 32 b) 4#32 = code b 1 := by
  have h : ∀ b : BitVec 8, IntOp.shrsi ArithUnit.host (BitVec.setWidth 32 b) 4#32
      = IntOp.shrsi ArithUnit.vector (BitVec.setWidth 32 b) 4#32 := by decide +kernel
  exact h b

/-! ## The values -/

/-- The eight magnitudes, in code order. -/
def magnitude : Fin 8 → ℝ := ![0, 1 / 2, 1, 3 / 2, 2, 3, 4, 6]

/-- Twice the eight magnitudes, in code order: whole numbers. -/
def twice : Fin 8 → ℕ := ![0, 1, 2, 3, 4, 6, 8, 12]

theorem twice_half (k : Fin 8) : (twice k : ℝ) * (1 / 2) = magnitude k := by
  fin_cases k <;> simp [twice, magnitude] <;> norm_num

/-- The value of code `q`: the magnitude its three low bits name, negated for the codes from 8 on. -/
def e2m1 (q : Fin 16) : EReal :=
  if 8 ≤ q.val then -((magnitude ⟨q.val % 8, Nat.mod_lt _ (by decide)⟩ : ℝ) : EReal)
  else ((magnitude ⟨q.val % 8, Nat.mod_lt _ (by decide)⟩ : ℝ) : EReal)

/-! ## The bf16 constants the programs spell -/

theorem half_bf16 : Ideal.ofBits .bf16 0x3F00#16 = (((1 : ℝ) / 2 : ℝ) : EReal) := by
  simp [Ideal.ofBits, Ideal.ieee, -EReal.coe_mul]; norm_num

theorem threeHalves_bf16 : Ideal.ofBits .bf16 0x3FC0#16 = (((3 : ℝ) / 2 : ℝ) : EReal) := by
  simp [Ideal.ofBits, Ideal.ieee, -EReal.coe_mul]; norm_num

theorem two_bf16 : Ideal.ofBits .bf16 0x4000#16 = ((2 : ℝ) : EReal) := by
  simp [Ideal.ofBits, Ideal.ieee, -EReal.coe_mul]; norm_num

theorem three_bf16 : Ideal.ofBits .bf16 0x4040#16 = ((3 : ℝ) : EReal) := by
  simp [Ideal.ofBits, Ideal.ieee, -EReal.coe_mul]; norm_num

theorem four_bf16 : Ideal.ofBits .bf16 0x4080#16 = ((4 : ℝ) : EReal) := by
  simp [Ideal.ofBits, Ideal.ieee, -EReal.coe_mul]; norm_num

theorem six_bf16 : Ideal.ofBits .bf16 0x40C0#16 = ((6 : ℝ) : EReal) := by
  simp [Ideal.ofBits, Ideal.ieee, -EReal.coe_mul]; norm_num

/-! ## The kernel's decode -/

/-- Twice the magnitude of a code, as the kernel computes it: the mantissa bit where the exponent field is 0, and the
    mantissa with its leading one shifted by the exponent otherwise. -/
def halves (q : BitVec 32) : BitVec 32 :=
  Scalar.select (IntOp.cmpi .eq (IntOp.andi (IntOp.shrsi ArithUnit.vector q 1#32) 3#32) 0#32)
    (IntOp.andi q 1#32)
    (IntOp.shli ArithUnit.vector (IntOp.ori 2#32 (IntOp.andi q 1#32))
      (IntOp.maxsi (IntOp.subi (IntOp.andi (IntOp.shrsi ArithUnit.vector q 1#32) 3#32) 1#32) 0#32))

/-- What the kernel decodes a code to: half of `halves`, subtracted from zero for the codes from 8 on. -/
def kernelDecode (q : BitVec 32) : EReal :=
  Scalar.select (IntOp.cmpi .sge q 8#32)
    (0 - FloatOps.sitofp (F := Ideal) FTy.bf16 (halves q) * Ideal.ofBits .bf16 0x3F00#16)
    (FloatOps.sitofp (F := Ideal) FTy.bf16 (halves q) * Ideal.ofBits .bf16 0x3F00#16)

/-- The kernel's integer arithmetic gives twice the magnitude. -/
theorem halves_eq : ∀ q : Fin 16,
    (halves (BitVec.ofNat 32 q)).toInt = (twice ⟨q.val % 8, Nat.mod_lt _ (by decide)⟩ : ℤ) := by decide +kernel

/-- The kernel's sign test is that of the table. -/
theorem sign_eq : ∀ q : Fin 16, IntOp.cmpi .sge (BitVec.ofNat 32 q) 8#32 = if 8 ≤ q.val then 1#1 else 0#1 := by
  decide +kernel

/-- The kernel decodes every code to its value. -/
theorem kernelDecode_eq (q : Fin 16) : kernelDecode (BitVec.ofNat 32 q) = e2m1 q := by
  have h : FloatOps.sitofp (F := Ideal) FTy.bf16 (halves (BitVec.ofNat 32 q)) * Ideal.ofBits .bf16 0x3F00#16
      = ((magnitude ⟨q.val % 8, Nat.mod_lt _ (by decide)⟩ : ℝ) : EReal) := by
    show (((halves (BitVec.ofNat 32 q)).toInt : ℝ) : EReal) * _ = _
    rw [half_bf16, halves_eq q, ← EReal.coe_mul, Int.cast_natCast, twice_half]
  unfold kernelDecode e2m1
  rw [h, sign_eq q, zero_sub]
  split <;> rfl

/-! ## The reference's decode -/

/-- Whether bit `w` of a code is set. -/
def bitSet (q w : BitVec 32) : BitVec 1 := IntOp.cmpi .ne (IntOp.andi q w) 0#32

/-- The magnitude of a code, as the reference computes it: nested selects on its three low bits. -/
def referenceMagnitude (q : BitVec 32) : EReal :=
  Scalar.select (bitSet q 4#32)
    (Scalar.select (bitSet q 2#32)
      (Scalar.select (bitSet q 1#32) (Ideal.ofBits .bf16 0x40C0#16) (Ideal.ofBits .bf16 0x4080#16))
      (Scalar.select (bitSet q 1#32) (Ideal.ofBits .bf16 0x4040#16) (Ideal.ofBits .bf16 0x4000#16)))
    (Scalar.select (bitSet q 2#32)
      (Scalar.select (bitSet q 1#32) (Ideal.ofBits .bf16 0x3FC0#16) 1)
      (Scalar.select (bitSet q 1#32) (Ideal.ofBits .bf16 0x3F00#16) 0))

/-- What the reference decodes a code to: its magnitude, negated where the sign bit is set. -/
def referenceDecode (q : BitVec 32) : EReal :=
  Scalar.select (bitSet q 8#32) (-referenceMagnitude q) (referenceMagnitude q)

/-- The four bits of a code. -/
theorem bitSet_eq : ∀ (q : Fin 16) (i : Fin 4),
    bitSet (BitVec.ofNat 32 q) (BitVec.ofNat 32 (2 ^ i.val)) = if q.val / 2 ^ i.val % 2 = 1 then 1#1 else 0#1 := by
  decide +kernel

/-- The reference decodes every code to its value. -/
theorem referenceDecode_eq (q : Fin 16) : referenceDecode (BitVec.ofNat 32 q) = e2m1 q := by
  have h0 := bitSet_eq q 0
  have h1 := bitSet_eq q 1
  have h2 := bitSet_eq q 2
  have h3 := bitSet_eq q 3
  simp only [Fin.val_zero, Fin.val_one, Fin.val_two, show ((3 : Fin 4) : ℕ) = 3 from rfl, pow_zero, pow_one,
    Nat.reducePow] at h0 h1 h2 h3
  unfold referenceDecode referenceMagnitude
  rw [h0, h1, h2, h3, half_bf16, threeHalves_bf16, two_bf16, three_bf16, four_bf16, six_bf16]
  fin_cases q <;> simp [e2m1, magnitude, Scalar.select]

/-- So the two decodes agree on every code of a packed byte. -/
theorem decode_agree (b : BitVec 8) (n : ℕ) : kernelDecode (code b n) = referenceDecode (code b n) := by
  obtain ⟨q, h⟩ := code_lt b n
  rw [h, kernelDecode_eq, referenceDecode_eq]

end Cert.Nvfp4
-- ==== Proof.Block.lean ====
/-
  What one grid point of the kernel computes, at the ideal instance and index by index: the block of the weight decoded
  from its packed block and its scale block, and the accumulator plus that block's part of the contraction.
-/
module

public import proofs.«01_k».proof.Proof.Decode
public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen Cert.Nvfp4

/-- Row `r` of the decoded weight block at column `k`: code `r % 2` of the byte in packed row `r / 2`, decoded, times the
    scale in row `r / 16`. -/
theorem weight_apply (w : Vec Ideal S256x2048 .i8) (s : FVec Ideal S32x2048 .fp8e4m3) (r : Fin 512) (k : Fin 2048) :
    k0_pay3 (F := Ideal) w s (ix2 r k)
      = kernelDecode (code (w (ix2 ⟨r.val / 2, by omega⟩ k)) (r.val % 2)) * s (ix2 ⟨r.val / 16, by omega⟩ k) := by
  pointwise [k0_pay3]
  rfl

/-- The accumulator block after a point, at row `b` and column `r`: what it held plus the sum over the block's columns of
    activation times weight. -/
theorem step_apply (w : FVec Ideal S512x2048 .bf16) (x : FVec Ideal S24x2048 .bf16) (acc : FVec Ideal S24x512 .f32)
    (b : Fin 24) (r : Fin 512) :
    k0_pay2 (F := Ideal) w x acc (ix2 b r) = acc (ix2 b r) + ∑ k : Fin 2048, x (ix2 b k) * w (ix2 r k) := by
  pointwise [k0_pay2]

/-- The block the accumulator is reset to is zero everywhere. -/
theorem reset_apply (j : S24x512.Idx) : k0_pay1 (F := Ideal) j = 0 := by
  idx_vars j
  pointwise [k0_pay1]

/-- One point's part of the contraction: the product of its activation block with its decoded weight block. -/
def part (x : FVec Ideal S24x2048 .bf16) (w : Vec Ideal S256x2048 .i8) (s : FVec Ideal S32x2048 .fp8e4m3)
    (b : Fin 24) (r : Fin 512) : EReal :=
  ∑ k : Fin 2048, x (ix2 b k)
    * (kernelDecode (code (w (ix2 ⟨r.val / 2, by omega⟩ k)) (r.val % 2)) * s (ix2 ⟨r.val / 16, by omega⟩ k))

/-- One point adds its part to the accumulator. -/
theorem point_apply (x : FVec Ideal S24x2048 .bf16) (w : Vec Ideal S256x2048 .i8) (s : FVec Ideal S32x2048 .fp8e4m3)
    (acc : FVec Ideal S24x512 .f32) (j : S24x512.Idx) :
    k0_pay2 (F := Ideal) (k0_pay3 (F := Ideal) w s) x acc j = acc j + part x w s (j 0) (j 1) := by
  idx_vars j
  rw [step_apply]
  simp only [weight_apply]
  rfl

end Cert.KernelIdeal.Val
-- ==== Proof.KernelArray.lean ====
/-
  What the kernel's output array holds at the end of the run, at the ideal instance: the scratch accumulator runs over the
  nine column blocks of each row block, so each element is the contraction of a row of the activations with a row of the
  decoded weight, summed over all 18432 columns.
-/
module

public import proofs.«01_k».proof.Proof.Block
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Nvfp4

variable (m : (ℓ : Loc nD τ sig) → Buf (Elt Ideal) ℓ)

/-- Which block of its array each window takes at a grid point: the activations' column block, the packed weight's, the
    scales' and the output's. -/
theorem idx : ∀ t : Fin cfg0.N,
    win0_0.index t = ![0, t.val % 9] ∧ win0_1.index t = ![t.val / 9, t.val % 9]
      ∧ win0_2.index t = ![t.val / 9, t.val % 9] ∧ win0_3.index t = ![0, t.val / 9] :=
  (by decide +kernel : ∀ t : Fin grid0.N,
    win0_0.index t = ![0, t.val % 9] ∧ win0_1.index t = ![t.val / 9, t.val % 9]
      ∧ win0_2.index t = ![t.val / 9, t.val % 9] ∧ win0_3.index t = ![0, t.val / 9])

/-- The part of the contraction the point `t` adds. -/
abbrev partAt (c : Dev nD) (t : Fin cfg0.N) (j : S24x512.Idx) : EReal :=
  part (iblk m c 0 t) (iblk m c 1 t) (iblk m c 2 t) (j 0) (j 1)

/-- At the first point of a run the scratch is left at zero plus the point's part. -/
theorem scratch_first (c : Dev nD) (t : Fin cfg0.N) (h : t.val % 9 = 0) (j : S24x512.Idx) :
    (outsAt0 m c t.val t.isLt).2 j = 0 + partAt m c t j := by
  rw [outsAt0_A m c t h (by omega)]
  frame_out
  rw [point_apply, reset_apply]

/-- At the later points the scratch is left at what the point before left plus the point's part. -/
theorem scratch_next (c : Dev nD) (t : Fin cfg0.N) (h : ¬t.val % 9 = 0) (j : S24x512.Idx) :
    (outsAt0 m c t.val t.isLt).2 j
      = (outsAt0 m c (t.val - 1) (Nat.lt_of_le_of_lt (Nat.sub_le _ _) t.isLt)).2 j + partAt m c t j := by
  by_cases h8 : t.val % 9 = 8
  · rw [outsAt0_C m c t h h8]
    frame_out
    rw [point_apply]
    exact congrArg (· + _) (congrFun ((Memref.isWhole_whole cc0_scratch0).read_unread _) j)
  · rw [outsAt0_B m c t h h8]
    frame_out
    rw [point_apply]
    exact congrArg (· + _) (congrFun ((Memref.isWhole_whole cc0_scratch0).read_unread _) j)

/-- At the last point of a run the output block is the scratch. -/
theorem out_last (c : Dev nD) (t : Fin cfg0.N) (h8 : t.val % 9 = 8) :
    (outsAt0 m c t.val t.isLt).1 = (outsAt0 m c t.val t.isLt).2 := by
  rw [outsAt0_C m c t (by omega) h8]
  frame_out

/-- The whole contraction: row `b` of the activations with row `r` of the decoded weight (code `r % 2` of packed row
    `r / 2`, times the scale in row `r / 16`), over all columns. -/
def total (dy : FVec Ideal S24x18432 .bf16) (w : Vec Ideal S3584x18432 .i8) (s : FVec Ideal S448x18432 .fp8e4m3) :
    FVec Ideal S24x7168 .f32 := fun j =>
  ∑ k : Fin 18432, dy (ix2 (j 0) k)
    * (kernelDecode (code (w (ix2 ⟨(j 1).val / 2, by have : (j 1).val < 7168 := (j 1).isLt; omega⟩ k)) ((j 1).val % 2))
      * s (ix2 ⟨(j 1).val / 16, by have : (j 1).val < 7168 := (j 1).isLt; omega⟩ k))

/-- The output array ends holding the whole contraction of the arrays the launch finds. -/
theorem final (c : Dev nD) :
    (dats m 0 c).arrAt 3 cfg0.N = total (V m c main_v0) (V m c main_arg1) (V m c main_arg2) :=
  (dats m 0 c).arrAt_eq_of_covers 3 _ (by decide +kernel) fun t hf y => by
    have h8 : t.val % 9 = 8 := (flush0_3 t).mp hf
    blk_simp
    rw [after0_3, out_last m c t h8,
      Pipeline.eq_sum_fin_of_reset_step_apply_of_flush (fun n h => (outsAt0 m c n h).2) 9 (fun _ => 0) (partAt m c)
        (scratch_first m c) (scratch_next m c) t h8 _, zero_add]
    unfold total partAt part
    refine Fin.sum_mul_add_congr fun s k hl => ?_
    -- a block starts at an even row, so a row of it has the parity of its place in the block
    have he : ((win0_3.blk t).view.emb y 1).val % 2 = (y 1).val % 2 := by
      blk_simp
      rw [(idx t).2.2.2]
      omega
    rw [he]
    blk_point [iblk, idx t, idx ⟨_, Pipeline.run_point_lt_of_flush t h8 s⟩]

end Cert.KernelIdeal.Val
-- ==== Proof.KernelRun.lean ====
/-
  The kernel program's run at the ideal instance, read: its result is the contraction `total` of the argument arrays
  scaled by the global factor, and the arguments are unchanged.
-/
module

public import proofs.«01_k».proof.Proof.KernelArray

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Nvfp4

/-- What the host does with the contraction: it scales it by the global factor, converts it to bf16 and reshapes it. -/
def scaled (o : FVec Ideal S24x7168 .f32) (g : FVec Ideal S_ .f32) : FVec Ideal S24x1x7168 .bf16 :=
  shapeCast S24x1x7168
    (truncf .bf16 (mulf o (broadcastInDim S24x7168 ![] bcast_S_S24x7168 g)) bitsLt_bf16_f32)
    shapeCasts_S24x7168_S24x1x7168

/-- The program's result as a function of its four arguments. -/
def result (dy : FVec Ideal S24x1x18432 .bf16) (w : Vec Ideal S3584x18432 .i8) (s : FVec Ideal S448x18432 .fp8e4m3)
    (g : FVec Ideal S_ .f32) : FVec Ideal S24x1x7168 .bf16 :=
  scaled (total (shapeCast S24x18432 dy shapeCasts_S24x1x18432_S24x18432) w s) g

/-- The lines after the region compute `scaled`, from any contents of the buffers. -/
theorem tail_eq (W : Valuation τ sig (Elt Ideal)) :
    StableHlo.after ([hostOps1 (F := Ideal)]).flatten W main_v5 = scaled (W main_v1) (W main_arg3) := by
  simp only [List.flatten_cons, List.flatten_nil, List.cons_append, List.nil_append]
  after_results
  rfl

variable (m : (ℓ : Loc nD τ sig) → Buf (Elt Ideal) ℓ) (ρ : Dev nD → PrngReg)

/-- The activations as the region finds them: the argument without its axis of size 1. -/
theorem V_main_v0 (c : Dev nD) :
    V m c main_v0 = shapeCast S24x18432 (m ((c.tc : Thread nD τ).loc main_arg0) : FVec Ideal S24x1x18432 .bf16)
      shapeCasts_S24x1x18432_S24x18432 := by
  entry_read
  rfl

theorem V_main_arg1 (c : Dev nD) : V m c main_arg1 = m ((c.tc : Thread nD τ).loc main_arg1) := by
  unfold V V0
  simp only [List.flatten_cons, List.flatten_nil, List.cons_append, List.nil_append]
  after_results

theorem V_main_arg2 (c : Dev nD) : V m c main_arg2 = m ((c.tc : Thread nD τ).loc main_arg2) := by
  unfold V V0
  simp only [List.flatten_cons, List.flatten_nil, List.cons_append, List.nil_append]
  after_results

theorem V_main_arg3 (c : Dev nD) : V m c main_arg3 = m ((c.tc : Thread nD τ).loc main_arg3) := by
  unfold V V0
  simp only [List.flatten_cons, List.flatten_nil, List.cons_append, List.nil_append]
  after_results

/-- What the buffer of the result holds after the lines that follow the region. -/
theorem tail_result (c : Dev nD) :
    Pipeline.afterTail₀ cfgs (dats m) 0 (V0 m) [hostOps1] c main_v5
      = result (m ((c.tc : Thread nD τ).loc main_arg0)) (m ((c.tc : Thread nD τ).loc main_arg1))
          (m ((c.tc : Thread nD τ).loc main_arg2)) (m ((c.tc : Thread nD τ).loc main_arg3)) := by
  have h1 : Pipeline.withArrays (cfgs 0).spec c (V0 m c) (fun w => (dats m 0 c).arrAt w (cfgs 0).N) (Proc.devRef .tc main_v1)
      = (dats m 0 c).arrAt 3 cfg0.N := Pipeline.withArrays_arr spec0 winFacts0.arr_inj c (V0 m c) _ 3
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne spec0 c (V0 m c) _ main_arg3 (by decide)).trans (V_main_arg3 m c)
  unfold Pipeline.afterTail₀
  rw [tail_eq, h1, h3, final, V_main_v0, V_main_arg1, V_main_arg2]
  unfold result
  with_reducible rfl

/-- The run, read. -/
theorem run : θ_run defs (onTc (τ := τ) (main (F := Ideal))) ⟨m, fun _ => 0, ρ⟩ fun r => ∀ c : Dev nD,
    r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ) (unchanged m ρ)) fun _ h c =>
    ⟨((h.1 c).2 main_v5 (by decide)).trans (tail_result m c), h.2 c⟩

end Cert.KernelIdeal.Val
-- ==== Proof.ReferenceResult.lean ====
/-
  What the reference's host lines compute, as functions of arrays at the ideal instance: the value of the codes, one field
  of the weight (the low codes or the high codes, scaled), its contraction with the activations, and the result, whose
  even columns come from the low codes and whose odd columns come from the high codes. Then the same index by index.
-/
module

public import proofs.«01_k».proof.Proof.Decode
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.Nvfp4

/-! ## The lines as functions of arrays -/

/-- The scalar word `w` at every element. -/
def splatI (w : BitVec 32) : IVec S3584x18432 32 :=
  broadcastInDim S3584x18432 ![] bcast_S_S3584x18432 (constantI S_ 32 w)

/-- The bf16 scalar of bit pattern `w` at every element. -/
def splatF (w : BitVec 16) : FVec Ideal S3584x18432 .bf16 :=
  broadcastInDim S3584x18432 ![] bcast_S_S3584x18432 (constant (F := Ideal) S_ .bf16 w)

/-- The low codes of the packed weight. -/
def lowCodes (w : Vec Ideal S3584x18432 .i8) : IVec S3584x18432 32 :=
  andi (extui 32 w natLt_8_32) (splatI 15#32)

/-- The high codes of the packed weight. -/
def highCodes (w : Vec Ideal S3584x18432 .i8) : IVec S3584x18432 32 :=
  Host.shrsi (extui 32 w natLt_8_32) (splatI 4#32)

/-- Whether bit `w` of each code is set. -/
def bit (c : IVec S3584x18432 32) (w : BitVec 32) : IVec S3584x18432 1 :=
  cmpi .ne (andi c (splatI w)) (splatI 0#32)

/-- The magnitudes of the codes: nested selects on their three low bits. -/
def mag (c : IVec S3584x18432 32) : FVec Ideal S3584x18432 .bf16 :=
  select (bit c 4#32)
    (select (bit c 2#32)
      (select (bit c 1#32) (splatF 0x40C0#16) (splatF 0x4080#16))
      (select (bit c 1#32) (splatF 0x4040#16) (splatF 0x4000#16)))
    (select (bit c 2#32)
      (select (bit c 1#32) (splatF 0x3FC0#16) (splatF 0x3F80#16))
      (select (bit c 1#32) (splatF 0x3F00#16) (splatF 0x0000#16)))

/-- The values of the codes: their magnitudes, negated where the sign bit is set. -/
def dec (c : IVec S3584x18432 32) : FVec Ideal S3584x18432 .bf16 :=
  select (bit c 8#32) (Host.negf (mag c)) (mag c)

/-- One field of the weight: the values of the codes times the scale of their block of eight packed rows. -/
def field (c : IVec S3584x18432 32) (s : FVec Ideal S448x18432 .bf16) : FVec Ideal S3584x18432 .bf16 :=
  shapeCast S3584x18432
    (mulf (shapeCast S448x8x18432 (dec c) shapeCasts_S3584x18432_S448x8x18432)
      (broadcastInDim S448x8x18432 ![0, 1, 2] bcast_S448x1x18432_S448x8x18432_0_1_2
        (broadcastInDim S448x1x18432 ![0, 2] bcast_S448x18432_S448x1x18432_0_2 s)))
    shapeCasts_S448x8x18432_S3584x18432

/-- The contraction of the activations with one field, over its columns. -/
def contracted (dy : FVec Ideal S24x1x18432 .bf16) (w : FVec Ideal S3584x18432 .bf16) : FVec Ideal S24x1x3584 .f32 :=
  Host.dotGeneral dot_S24x1x18432_S3584x18432_S24x1x3584_2_1_01_0_n_n none dy w

/-- The result from the two arrays of codes: the contractions with the two fields interleaved column by column, scaled
    by the global factor and converted to bf16. -/
def combined (dy : FVec Ideal S24x1x18432 .bf16) (lo hi : IVec S3584x18432 32) (s : FVec Ideal S448x18432 .bf16)
    (g : FVec Ideal S_ .f32) : FVec Ideal S24x1x7168 .bf16 :=
  truncf .bf16
    (mulf
      (shapeCast S24x1x7168
        (concatenate S24x1x3584x2 3
          [⟨S24x1x3584x1, broadcastInDim S24x1x3584x1 ![0, 1, 2] bcast_S24x1x3584_S24x1x3584x1_0_1_2 (contracted dy (field lo s))⟩,
            ⟨S24x1x3584x1, broadcastInDim S24x1x3584x1 ![0, 1, 2] bcast_S24x1x3584_S24x1x3584x1_0_1_2 (contracted dy (field hi s))⟩]
          concatenates_S24x1x3584x1_S24x1x3584x1_S24x1x3584x2_d3)
        shapeCasts_S24x1x3584x2_S24x1x7168)
      (broadcastInDim S24x1x7168 ![] bcast_S_S24x1x7168 g))
    bitsLt_bf16_f32

/-- The scales, converted to bf16. -/
def widened (s : FVec Ideal S448x18432 .fp8e4m3) : FVec Ideal S448x18432 .bf16 :=
  extf .bf16 s bitsLt_fp8e4m3_bf16

/-- The program's result as a function of its four arguments. -/
def result (dy : FVec Ideal S24x1x18432 .bf16) (w : Vec Ideal S3584x18432 .i8) (s : FVec Ideal S448x18432 .fp8e4m3)
    (g : FVec Ideal S_ .f32) : FVec Ideal S24x1x7168 .bf16 :=
  combined dy (lowCodes w) (highCodes w) (widened s) g

/-! ## The lines at an index -/

theorem lowCodes_apply (w : Vec Ideal S3584x18432 .i8) (p : Fin 3584) (k : Fin 18432) :
    lowCodes w (ix2 p k) = code (w (ix2 p k)) 0 := by
  pointwise [lowCodes, splatI]
  rfl

theorem highCodes_apply (w : Vec Ideal S3584x18432 .i8) (p : Fin 3584) (k : Fin 18432) :
    highCodes w (ix2 p k) = code (w (ix2 p k)) 1 := by
  pointwise [highCodes, splatI]
  exact code_one_host _

/-- One field at packed row `p` and column `k`: the code's value times the scale in row `p / 8`. -/
theorem field_apply (c : IVec S3584x18432 32) (s : FVec Ideal S448x18432 .bf16) (p : Fin 3584) (k : Fin 18432) :
    field c s (ix2 p k) = referenceDecode (c (ix2 p k)) * s (ix2 ⟨p.val / 8, by omega⟩ k) := by
  unfold referenceDecode referenceMagnitude bitSet
  pointwise [field, dec, mag, bit, splatI, splatF]

/-- The result at batch row `b` and column `r`: the contraction with the field of the code `r % 2`, in packed row
    `r / 2`, times the global factor. -/
theorem combined_apply (dy : FVec Ideal S24x1x18432 .bf16) (lo hi : IVec S3584x18432 32) (s : FVec Ideal S448x18432 .bf16)
    (g : FVec Ideal S_ .f32) (b : Fin 24) (r : Fin 7168) :
    combined dy lo hi s g (ix3 b 0 r)
      = (if r.val % 2 < 1 then ∑ k : Fin 18432, dy (ix3 b 0 k) * field lo s (ix2 ⟨r.val / 2, by omega⟩ k)
          else ∑ k : Fin 18432, dy (ix3 b 0 k) * field hi s (ix2 ⟨r.val / 2, by omega⟩ k)) * g ix0 := by
  pointwise [combined, contracted]
  rfl

/-- The result at batch row `b` and column `r`: the sum over the columns of activation times the value of code `r % 2` of
    packed row `r / 2` times the scale in row `r / 2 / 8`, times the global factor. -/
theorem result_apply (dy : FVec Ideal S24x1x18432 .bf16) (w : Vec Ideal S3584x18432 .i8)
    (s : FVec Ideal S448x18432 .fp8e4m3) (g : FVec Ideal S_ .f32) (b : Fin 24) (r : Fin 7168) :
    result dy w s g (ix3 b 0 r)
      = (∑ k : Fin 18432, dy (ix3 b 0 k)
          * (referenceDecode (code (w (ix2 ⟨r.val / 2, by omega⟩ k)) (r.val % 2))
            * s (ix2 ⟨r.val / 2 / 8, by omega⟩ k))) * g ix0 := by
  unfold result
  rw [combined_apply]
  refine congrArg (· * g ix0) ?_
  split
  · next h =>
    have h0 : r.val % 2 = 0 := by omega
    simp only [field_apply, lowCodes_apply, h0]
    rfl
  · next h =>
    have h1 : r.val % 2 = 1 := by omega
    simp only [field_apply, highCodes_apply, h1]
    rfl

end Cert.ReferenceIdeal.Val
-- ==== Proof.ReferenceRun.lean ====
/-
  The reference program's run at the ideal instance, read: the one gridless call converts the scales, the host lines
  around it compute `result` of the argument arrays, and the arguments are unchanged.
-/
module

public import proofs.«01_k».proof.Proof.ReferenceResult

@[expose] public section

set_option maxRecDepth 16384

noncomputable section

open Idealize.ShloMosaic Idealize.ShloMosaic.TcCoe Idealize.SL.Sem
open Idealize.ShloMosaic.Pipeline (Dat)

namespace Cert.ReferenceIdeal.Val

open Cert.ReferenceIdeal Cert.ReferenceIdeal.Gen Cert.Nvfp4

set_option maxHeartbeats 4000000 in
/-- The lines after the call compute `combined`, from any contents of the buffers. -/
theorem tail_eq (W : Valuation τ sig (Elt Ideal)) :
    StableHlo.after ([hostOps1 (F := Ideal), hostOps1_1, hostOps1_2, hostOps1_3, hostOps1_4, hostOps1_5, hostOps1_6,
        hostOps1_7, hostOps1_8, hostOps1_9, hostOps1_10, hostOps1_11, hostOps1_12, hostOps1_13, hostOps1_14, hostOps1_15,
        hostOps1_16, hostOps1_17, hostOps1_18, hostOps1_19, hostOps1_20, hostOps1_21, hostOps1_22, hostOps1_23,
        hostOps1_24, hostOps1_25, hostOps1_26]).flatten W main_v74
      = combined (W main_arg0) (W main_v2) (W main_v4) (W main_v5) (W main_arg3) := by
  simp only [List.flatten_cons, List.flatten_nil, List.cons_append, List.nil_append]
  after_results
  rfl

variable (m : (ℓ : Loc nD τ sig) → Buf (Elt Ideal) ℓ) (ρ : Dev nD → PrngReg)

/-! ## What the call finds -/

theorem V_main_v2 (c : Dev nD) : V m c main_v2 = lowCodes (m ((c.tc : Thread nD τ).loc main_arg1)) := by
  unfold V V0
  simp only [List.flatten_cons, List.flatten_nil, List.cons_append, List.nil_append]
  after_results
  rfl

theorem V_main_v4 (c : Dev nD) : V m c main_v4 = highCodes (m ((c.tc : Thread nD τ).loc main_arg1)) := by
  unfold V V0
  simp only [List.flatten_cons, List.flatten_nil, List.cons_append, List.nil_append]
  after_results
  rfl

theorem V_main_arg0 (c : Dev nD) : V m c main_arg0 = m ((c.tc : Thread nD τ).loc main_arg0) := by
  unfold V V0
  simp only [List.flatten_cons, List.flatten_nil, List.cons_append, List.nil_append]
  after_results

theorem V_main_arg2 (c : Dev nD) : V m c main_arg2 = m ((c.tc : Thread nD τ).loc main_arg2) := by
  unfold V V0
  simp only [List.flatten_cons, List.flatten_nil, List.cons_append, List.nil_append]
  after_results

theorem V_main_arg3 (c : Dev nD) : V m c main_arg3 = m ((c.tc : Thread nD τ).loc main_arg3) := by
  unfold V V0
  simp only [List.flatten_cons, List.flatten_nil, List.cons_append, List.nil_append]
  after_results

/-! ## What the call leaves -/

/-- The call takes the one block of each array. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The call's output array ends holding the scales converted to bf16. -/
theorem scales (c : Dev nD) :
    (dats m 0 c).arrAt 1 cfg0.N = widened (V m c main_arg2) :=
  (dats m 0 c).arrAt_eq_of_covers 1 _ (by decide +kernel) fun t hf y => by
    blk_simp
    rw [after0_1]
    frame_out
    unfold k0_pay1
    blk_point [iblk, idx t]

/-- What the buffers hold when the call has run: its output array at the scales, every other buffer as before. -/
abbrev exit (c : Dev nD) : Valuation τ sig (Elt Ideal) :=
  Pipeline.withArrays (cfgs 0).spec c (V0 m c) fun w => (dats m 0 c).arrAt w (cfgs 0).N

theorem exit_main_v5 (c : Dev nD) : exit m c main_v5 = widened (m ((c.tc : Thread nD τ).loc main_arg2)) :=
  (Pipeline.withArrays_arr spec0 winFacts0.arr_inj c (V0 m c) _ 1).trans
    ((scales m c).trans (congrArg widened (V_main_arg2 m c)))

theorem exit_main_v2 (c : Dev nD) : exit m c main_v2 = lowCodes (m ((c.tc : Thread nD τ).loc main_arg1)) :=
  (Pipeline.withArrays_of_ne spec0 c (V0 m c) _ main_v2 (by decide)).trans (V_main_v2 m c)

theorem exit_main_v4 (c : Dev nD) : exit m c main_v4 = highCodes (m ((c.tc : Thread nD τ).loc main_arg1)) :=
  (Pipeline.withArrays_of_ne spec0 c (V0 m c) _ main_v4 (by decide)).trans (V_main_v4 m c)

theorem exit_main_arg0 (c : Dev nD) : exit m c main_arg0 = m ((c.tc : Thread nD τ).loc main_arg0) :=
  (Pipeline.withArrays_of_ne spec0 c (V0 m c) _ main_arg0 (by decide)).trans (V_main_arg0 m c)

theorem exit_main_arg3 (c : Dev nD) : exit m c main_arg3 = m ((c.tc : Thread nD τ).loc main_arg3) :=
  (Pipeline.withArrays_of_ne spec0 c (V0 m c) _ main_arg3 (by decide)).trans (V_main_arg3 m c)

/-! ## The run -/

/-- What the buffer of the result holds after the lines that follow the call. -/
theorem tail_result (c : Dev nD) :
    Pipeline.afterTail₀ cfgs (dats m) 0 (V0 m) [hostOps1, hostOps1_1, hostOps1_2, hostOps1_3, hostOps1_4, hostOps1_5, hostOps1_6, hostOps1_7,
        hostOps1_8, hostOps1_9, hostOps1_10, hostOps1_11, hostOps1_12, hostOps1_13, hostOps1_14,
        hostOps1_15, hostOps1_16, hostOps1_17, hostOps1_18, hostOps1_19, hostOps1_20, hostOps1_21,
        hostOps1_22, hostOps1_23, hostOps1_24, hostOps1_25, hostOps1_26] c main_v74
      = result (m ((c.tc : Thread nD τ).loc main_arg0)) (m ((c.tc : Thread nD τ).loc main_arg1))
          (m ((c.tc : Thread nD τ).loc main_arg2)) (m ((c.tc : Thread nD τ).loc main_arg3)) := by
  refine (tail_eq (exit m c)).trans ?_
  rw [exit_main_v5, exit_main_v2, exit_main_v4, exit_main_arg0, exit_main_arg3]
  unfold result
  with_reducible rfl

/-- The run, read. -/
theorem run : θ_run defs (onTc (τ := τ) (main (F := Ideal))) ⟨m, fun _ => 0, ρ⟩ fun r => ∀ c : Dev nD,
    r.2.mem ((c.tc : Thread nD τ).loc main_v74)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ) (unchanged m ρ)) fun _ h c =>
    ⟨((h.1 c).2 main_v74 (by decide)).trans (tail_result m c), h.2 c⟩

end Cert.ReferenceIdeal.Val
-- ==== Proof.Equation.lean ====
/-
  The equation: as functions of the four arguments the kernel program's result and the reference's are equal, at the
  ideal instance. Both are, at batch row `b` and column `r`, one sum over the 18432 columns times the global factor; the
  summands agree because the two decodes do.
-/
module

public import proofs.«01_k».proof.Proof.KernelRun
public import proofs.«01_k».proof.Proof.ReferenceRun

@[expose] public section

set_option maxRecDepth 16384

noncomputable section

open Idealize.ShloMosaic Idealize.ShloMosaic.TcCoe Idealize.SL.Sem

namespace Cert.KernelIdeal.Val

open Cert.KernelIdeal Cert.KernelIdeal.Gen Cert.Nvfp4

/-- The kernel's result at batch row `b` and column `r`. -/
theorem result_apply (dy : FVec Ideal S24x1x18432 .bf16) (w : Vec Ideal S3584x18432 .i8)
    (s : FVec Ideal S448x18432 .fp8e4m3) (g : FVec Ideal S_ .f32) (b : Fin 24) (r : Fin 7168) :
    result dy w s g (ix3 b 0 r)
      = (∑ k : Fin 18432, dy (ix3 b 0 k)
          * (kernelDecode (code (w (ix2 ⟨r.val / 2, by omega⟩ k)) (r.val % 2))
            * s (ix2 ⟨r.val / 16, by omega⟩ k))) * g ix0 := by
  pointwise [result, scaled, total]

end Cert.KernelIdeal.Val

namespace Cert.Nvfp4

/-- The two results are the same function of the arguments. -/
theorem results_eq (dy : FVec Ideal Cert.KernelIdeal.S24x1x18432 .bf16) (w : Vec Ideal Cert.KernelIdeal.S3584x18432 .i8)
    (s : FVec Ideal Cert.KernelIdeal.S448x18432 .fp8e4m3) (g : FVec Ideal Cert.KernelIdeal.S_ .f32) :
    Cert.ReferenceIdeal.Val.result dy w s g = Cert.KernelIdeal.Val.result dy w s g := by
  have h : ∀ (b : Fin 24) (r : Fin 7168),
      Cert.ReferenceIdeal.Val.result dy w s g (ix3 b 0 r) = Cert.KernelIdeal.Val.result dy w s g (ix3 b 0 r) := by
    intro b r
    rw [Cert.ReferenceIdeal.Val.result_apply, Cert.KernelIdeal.Val.result_apply]
    simp only [decode_agree, Nat.div_div_eq_div_mul, Nat.reduceMul]
  funext j
  idx_vars j
  obtain rfl : j1 = 0 := Subsingleton.elim _ _
  exact h j0 j2

end Cert.Nvfp4
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference compute equal results at the ideal instance: both runs end at the kernel's result as a
    function of the arguments, the reference's being the same function (`results_eq`). -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, Cert.KernelIdeal.Val.run m g, ?_⟩
  refine θ_run_mono (Cert.ReferenceIdeal.Val.run m' g') fun _ h c => ⟨(h c).1.trans ?_, (h c).2⟩
  obtain ⟨h0, h1, h2, h3⟩ := hagree c
  rw [h0, h1, h2, h3]
  exact Cert.Nvfp4.results_eq _ _ _ _

/-- Everything the certificate claims: the three programs run, terminate and leave their arguments unchanged; the ideal
    program is the kernel's own text; and the kernel's result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
